-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v31) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x128 : Shape := ⟨3, ![4, 4096, 128]⟩
abbrev S4x4096 : Shape := ⟨2, ![4, 4096]⟩
abbrev S32x128 : Shape := ⟨2, ![32, 128]⟩
abbrev S128x32 : Shape := ⟨2, ![128, 32]⟩
abbrev S16384x128 : Shape := ⟨2, ![16384, 128]⟩
abbrev S16384x1 : Shape := ⟨2, ![16384, 1]⟩
abbrev S_ : Shape := ⟨0, ![]⟩
abbrev S8192x128 : Shape := ⟨2, ![8192, 128]⟩
abbrev S8192x1 : Shape := ⟨2, ![8192, 1]⟩
abbrev S8192x32 : Shape := ⟨2, ![8192, 32]⟩

abbrev nBuf : Space → Nat
  | .hbm => 20
  | .vmem => 16
  | .smem => 0
  | _ => 0

abbrev bufTy : (tb : Table) → Fin (tcTables nBuf tb) → BufTy
  | .hbm, ⟨0, _⟩ => ⟨S4x4096x128, .f32⟩
  | .hbm, ⟨1, _⟩ => ⟨S4x4096x128, .f32⟩
  | .hbm, ⟨2, _⟩ => ⟨S4x4096, .f32⟩
  | .hbm, ⟨3, _⟩ => ⟨S32x128, .f32⟩
  | .hbm, ⟨4, _⟩ => ⟨S128x32, .f32⟩
  | .hbm, ⟨5, _⟩ => ⟨S32x128, .f32⟩
  | .hbm, ⟨6, _⟩ => ⟨S128x32, .f32⟩
  | .hbm, ⟨7, _⟩ => ⟨S16384x128, .f32⟩
  | .hbm, ⟨8, _⟩ => ⟨S16384x128, .f32⟩
  | .hbm, ⟨9, _⟩ => ⟨S16384x1, .f32⟩
  | .hbm, ⟨10, _⟩ => ⟨S16384x128, .f32⟩
  | .hbm, ⟨11, _⟩ => ⟨S16384x128, .f32⟩
  | .hbm, ⟨12, _⟩ => ⟨S16384x1, .i32⟩
  | .hbm, ⟨13, _⟩ => ⟨S_, .i32⟩
  | .hbm, ⟨14, _⟩ => ⟨S16384x1, .i32⟩
  | .hbm, ⟨15, _⟩ => ⟨S16384x1, .i1⟩
  | .hbm, ⟨16, _⟩ => ⟨S16384x1, .i1⟩
  | .hbm, ⟨17, _⟩ => ⟨S4x4096x128, .f32⟩
  | .hbm, ⟨18, _⟩ => ⟨S4x4096x128, .f32⟩
  | .hbm, ⟨19, _⟩ => ⟨S4x4096, .i1⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8192x1, .f32⟩
  | .local _ .vmem, ⟨5, _⟩ => ⟨S8192x1, .f32⟩
  | .local _ .vmem, ⟨6, _⟩ => ⟨S32x128, .f32⟩
  | .local _ .vmem, ⟨7, _⟩ => ⟨S128x32, .f32⟩
  | .local _ .vmem, ⟨8, _⟩ => ⟨S32x128, .f32⟩
  | .local _ .vmem, ⟨9, _⟩ => ⟨S128x32, .f32⟩
  | .local _ .vmem, ⟨10, _⟩ => ⟨S8192x128, .f32⟩
  | .local _ .vmem, ⟨11, _⟩ => ⟨S8192x128, .f32⟩
  | .local _ .vmem, ⟨12, _⟩ => ⟨S8192x128, .f32⟩
  | .local _ .vmem, ⟨13, _⟩ => ⟨S8192x128, .f32⟩
  | .local _ .vmem, ⟨14, _⟩ => ⟨S8192x1, .i32⟩
  | .local _ .vmem, ⟨15, _⟩ => ⟨S8192x1, .i32⟩
  | _, _ => ⟨S4x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3_0 : Ref sig .tc := ⟨.hbm, 10, rfl⟩
abbrev main_call0_v3_1 : Ref sig .tc := ⟨.hbm, 11, rfl⟩
abbrev main_call0_v3_2 : Ref sig .tc := ⟨.hbm, 12, rfl⟩
abbrev main_call0_c : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_v0_0 : Ref sig .tc := ⟨.hbm, 17, rfl⟩
abbrev main_v0_1 : Ref sig .tc := ⟨.hbm, 18, rfl⟩
abbrev main_v0_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8192x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8192x1 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S4x4096x128 : Shape := ⟨3, ![4, 4096, 128]⟩
abbrev S4x4096 : Shape := ⟨2, ![4, 4096]⟩
abbrev S32x128 : Shape := ⟨2, ![32, 128]⟩
abbrev S128x32 : Shape := ⟨2, ![128, 32]⟩
abbrev S4x4096x32 : Shape := ⟨3, ![4, 4096, 32]⟩
abbrev S4096 : Shape := ⟨1, ![4096]⟩
abbrev S_ : Shape := ⟨0, ![]⟩
abbrev S4096x1 : Shape := ⟨2, ![4096, 1]⟩

abbrev nBuf : Space → Nat
  | .hbm => 53
  | .vmem => 0
  | .smem => 0
  | _ => 0

abbrev bufTy : (tb : Table) → Fin (tcTables nBuf tb) → BufTy
  | .hbm, ⟨0, _⟩ => ⟨S4x4096x128, .f32⟩
  | .hbm, ⟨1, _⟩ => ⟨S4x4096x128, .f32⟩
  | .hbm, ⟨2, _⟩ => ⟨S4x4096, .f32⟩
  | .hbm, ⟨3, _⟩ => ⟨S32x128, .f32⟩
  | .hbm, ⟨4, _⟩ => ⟨S128x32, .f32⟩
  | .hbm, ⟨5, _⟩ => ⟨S32x128, .f32⟩
  | .hbm, ⟨6, _⟩ => ⟨S128x32, .f32⟩
  | .hbm, ⟨7, _⟩ => ⟨S128x32, .f32⟩
  | .hbm, ⟨8, _⟩ => ⟨S4x4096x32, .f32⟩
  | .hbm, ⟨9, _⟩ => ⟨S128x32, .f32⟩
  | .hbm, ⟨10, _⟩ => ⟨S4x4096x32, .f32⟩
  | .hbm, ⟨11, _⟩ => ⟨S4096, .i32⟩
  | .hbm, ⟨12, _⟩ => ⟨S_, .f32⟩
  | .hbm, ⟨13, _⟩ => ⟨S4x4096x32, .f32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S_, .i32⟩
  | .hbm, ⟨18, _⟩ => ⟨S4096, .i32⟩
  | .hbm, ⟨19, _⟩ => ⟨S4096, .i32⟩
  | .hbm, ⟨20, _⟩ => ⟨S4096, .i32⟩
  | .hbm, ⟨21, _⟩ => ⟨S4096x1, .i32⟩
  | .hbm, ⟨22, _⟩ => ⟨S4x4096x32, .f32⟩
  | .hbm, ⟨23, _⟩ => ⟨S_, .f32⟩
  | .hbm, ⟨24, _⟩ => ⟨S4x4096x32, .f32⟩
  | .hbm, ⟨25, _⟩ => ⟨S_, .i32⟩
  | .hbm, ⟨26, _⟩ => ⟨S4096, .i32⟩
  | .hbm, ⟨27, _⟩ => ⟨S4096, .i1⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S4096, .i32⟩
  | .hbm, ⟨32, _⟩ => ⟨S4096x1, .i32⟩
  | .hbm, ⟨33, _⟩ => ⟨S4x4096x32, .f32⟩
  | .hbm, ⟨34, _⟩ => ⟨S_, .i1⟩
  | .hbm, ⟨35, _⟩ => ⟨S4x4096, .i1⟩
  | .hbm, ⟨36, _⟩ => ⟨S_, .f32⟩
  | .hbm, ⟨37, _⟩ => ⟨S4x4096, .f32⟩
  | .hbm, ⟨38, _⟩ => ⟨S4x4096, .i1⟩
  | .hbm, ⟨39, _⟩ => ⟨S4x4096, .i1⟩
  | .hbm, ⟨40, _⟩ => ⟨S_, .i32⟩
  | .hbm, ⟨41, _⟩ => ⟨S4096, .i32⟩
  | .hbm, ⟨42, _⟩ => ⟨S4096, .i1⟩
  | .hbm, ⟨43, _⟩ => ⟨S_, .i32⟩
  | .hbm, ⟨44, _⟩ => ⟨S4096, .i32⟩
  | .hbm, ⟨45, _⟩ => ⟨S4096, .i32⟩
  | .hbm, ⟨46, _⟩ => ⟨S4096, .i32⟩
  | .hbm, ⟨47, _⟩ => ⟨S4096x1, .i32⟩
  | .hbm, ⟨48, _⟩ => ⟨S4x4096, .i1⟩
  | .hbm, ⟨49, _⟩ => ⟨S32x128, .f32⟩
  | .hbm, ⟨50, _⟩ => ⟨S4x4096x128, .f32⟩
  | .hbm, ⟨51, _⟩ => ⟨S32x128, .f32⟩
  | .hbm, ⟨52, _⟩ => ⟨S4x4096x128, .f32⟩
  | _, _ => ⟨S4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_6 : Ref sig .tc := ⟨.hbm, 40, rfl⟩
abbrev main_v25 : Ref sig .tc := ⟨.hbm, 41, rfl⟩
abbrev main_v26 : Ref sig .tc := ⟨.hbm, 42, rfl⟩
abbrev main_c_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]
-- ==== Proof.Spec.lean ====
/- What the three results are, as plain mathematics: a row is projected by the rows of one matrix and put back by the
   rows of another, and a mask entry is the bit saying that the entry is not zero. Also the row numbering shared by the
   two layouts of a result, [4, 4096, n] and [16384, n]. -/
module

public import Idealize.ShloMosaic.Lib.Pipeline.Value
public import Idealize.ShloMosaic.Lib.Pointwise

@[expose] public section

noncomputable section

namespace Cert.Spec

open Idealize.ShloMosaic

/-- The latent coordinate `c` of one row `x`: its inner product with row `c` of the down projection. -/
def latent (x : Fin 128 → EReal) (W : FVec Ideal ⟨2, ![32, 128]⟩ .f32) (c : Fin 32) : EReal :=
  ∑ j : Fin 128, x j * W (ix2 c j)

/-- Coordinate `d` of one row `x` projected down by `W` and up by `R`. -/
def rebuilt (x : Fin 128 → EReal) (W : FVec Ideal ⟨2, ![32, 128]⟩ .f32) (R : FVec Ideal ⟨2, ![128, 32]⟩ .f32) (d : Fin 128) : EReal :=
  ∑ c : Fin 32, latent x W c * R (ix2 d c)

/-- The bit of a mask entry: whether it is not zero. -/
def live (x : EReal) : BitVec 1 := BitVec.ofBool (decide (x ≠ 0))

/-- Every row of a batch of rows, projected down and up. -/
def rebuilt3 (X : FVec Ideal ⟨3, ![4, 4096, 128]⟩ .f32) (W : FVec Ideal ⟨2, ![32, 128]⟩ .f32) (R : FVec Ideal ⟨2, ![128, 32]⟩ .f32) :
    FVec Ideal ⟨3, ![4, 4096, 128]⟩ .f32 :=
  fun i => rebuilt (fun j => X (ix3 (i 0) (i 1) j)) W R (i 2)

/-- Every entry of a mask as its bit. -/
def live2 (M : FVec Ideal ⟨2, ![4, 4096]⟩ .f32) : IVec ⟨2, ![4, 4096]⟩ 1 := fun i => live (M i)

/-- The rows of the flat layout, projected down and up. -/
def rebuiltRows (X : FVec Ideal ⟨2, ![16384, 128]⟩ .f32) (W : FVec Ideal ⟨2, ![32, 128]⟩ .f32) (R : FVec Ideal ⟨2, ![128, 32]⟩ .f32) :
    FVec Ideal ⟨2, ![16384, 128]⟩ .f32 :=
  fun i => rebuilt (fun j => X (ix2 (i 0) j)) W R (i 1)

/-- The mask column of the flat layout, each entry the 32-bit word 1 or 0. -/
def liveRows (M : FVec Ideal ⟨2, ![16384, 1]⟩ .f32) : IVec ⟨2, ![16384, 1]⟩ 32 := fun i => (live (M i)).zeroExtend 32

/-- Row `s` of batch `b` is row `4096 b + s` of the flat layout. -/
def flatRow (b : Fin 4) (s : Fin 4096) : Fin 16384 := ⟨b.val * 4096 + s.val, by omega⟩

/-- An array of batches of rows, flattened and read at a flat row, is the array at that batch and row. -/
theorem flatten_at {α : Type} (X : (⟨3, ![4, 4096, 128]⟩ : Shape).Idx → α) (h : (⟨3, ![4, 4096, 128]⟩ : Shape).ShapeCasts ⟨2, ![16384, 128]⟩)
    (b : Fin 4) (s : Fin 4096) (j : Fin 128) : shapeCast ⟨2, ![16384, 128]⟩ X h (ix2 (flatRow b s) j) = X (ix3 b s j) := by
  refine shapeCast_apply X h _ _ ?_
  rw [rowMajor_val3 _ 524288 128 rfl rfl, rowMajor_val2 _ 128 rfl]
  show b.val * 524288 + s.val * 128 + j.val = (b.val * 4096 + s.val) * 128 + j.val
  omega

/-- A mask flattened to one column and read at a flat row is the mask at that batch and row. -/
theorem flattenMask_at {α : Type} (M : (⟨2, ![4, 4096]⟩ : Shape).Idx → α) (h : (⟨2, ![4, 4096]⟩ : Shape).ShapeCasts ⟨2, ![16384, 1]⟩)
    (b : Fin 4) (s : Fin 4096) : shapeCast ⟨2, ![16384, 1]⟩ M h (ix2 (flatRow b s) 0) = M (ix2 b s) := by
  refine shapeCast_apply M h _ _ ?_
  rw [rowMajor_val2 _ 4096 rfl, rowMajor_val2 _ 1 rfl]
  show b.val * 4096 + s.val = (b.val * 4096 + s.val) * 1 + 0
  omega

/-- Flat rows put back into batches: the entry of a batch and row is the flat row's. -/
theorem unflatten_at {α : Type} (Y : (⟨2, ![16384, 128]⟩ : Shape).Idx → α) (h : (⟨2, ![16384, 128]⟩ : Shape).ShapeCasts ⟨3, ![4, 4096, 128]⟩)
    (i : (⟨3, ![4, 4096, 128]⟩ : Shape).Idx) : shapeCast ⟨3, ![4, 4096, 128]⟩ Y h i = Y (ix2 (flatRow (i 0) (i 1)) (i 2)) := by
  refine shapeCast_apply Y h _ _ ?_
  rw [rowMajor_val3 _ 524288 128 rfl rfl, rowMajor_val2 _ 128 rfl]
  show ((i 0).val * 4096 + (i 1).val) * 128 + (i 2).val = (i 0).val * 524288 + (i 1).val * 128 + (i 2).val
  omega

/-- A flat column put back into batches: the entry of a batch and row is the flat row's. -/
theorem unflattenMask_at {α : Type} (Y : (⟨2, ![16384, 1]⟩ : Shape).Idx → α) (h : (⟨2, ![16384, 1]⟩ : Shape).ShapeCasts ⟨2, ![4, 4096]⟩)
    (i : (⟨2, ![4, 4096]⟩ : Shape).Idx) : shapeCast ⟨2, ![4, 4096]⟩ Y h i = Y (ix2 (flatRow (i 0) (i 1)) 0) := by
  refine shapeCast_apply Y h _ _ ?_
  rw [rowMajor_val2 _ 1 rfl, rowMajor_val2 _ 4096 rfl]
  show ((i 0).val * 4096 + (i 1).val) * 1 + 0 = (i 0).val * 4096 + (i 1).val
  omega

/-- Flattening, projecting every flat row and putting the rows back projects every row of every batch. -/
theorem unflatten_rebuiltRows (X : FVec Ideal ⟨3, ![4, 4096, 128]⟩ .f32) (W : FVec Ideal ⟨2, ![32, 128]⟩ .f32) (R : FVec Ideal ⟨2, ![128, 32]⟩ .f32)
    (h : (⟨3, ![4, 4096, 128]⟩ : Shape).ShapeCasts ⟨2, ![16384, 128]⟩) (h' : (⟨2, ![16384, 128]⟩ : Shape).ShapeCasts ⟨3, ![4, 4096, 128]⟩) :
    shapeCast ⟨3, ![4, 4096, 128]⟩ (rebuiltRows (shapeCast ⟨2, ![16384, 128]⟩ X h) W R) h' = rebuilt3 X W R := by
  funext i
  rw [unflatten_at]
  show rebuilt (fun j => shapeCast ⟨2, ![16384, 128]⟩ X h (ix2 (flatRow (i 0) (i 1)) j)) W R (i 2) = _
  simp only [flatten_at X h (i 0) (i 1)]
  rfl

/-- A bit widened to a word is not the zero word exactly when the bit is set: comparing the word with zero gives the bit back. -/
theorem narrow_widen (b : BitVec 1) : IntOp.cmpi .ne (b.zeroExtend 32) 0#32 = b := by
  revert b; decide

/-- Flattening a mask, taking each entry's bit as a word, testing the words and putting them back gives the mask's bits. -/
theorem unflatten_liveRows (M : FVec Ideal ⟨2, ![4, 4096]⟩ .f32)
    (h : (⟨2, ![4, 4096]⟩ : Shape).ShapeCasts ⟨2, ![16384, 1]⟩) (h' : (⟨2, ![16384, 1]⟩ : Shape).ShapeCasts ⟨2, ![4, 4096]⟩)
    (z : IVec ⟨2, ![16384, 1]⟩ 32) (hz : ∀ i, z i = 0#32) :
    shapeCast ⟨2, ![4, 4096]⟩ (cmpi .ne (liveRows (shapeCast ⟨2, ![16384, 1]⟩ M h)) z) h' = live2 M := by
  funext i
  rw [unflattenMask_at]
  show IntOp.cmpi .ne ((live (shapeCast ⟨2, ![16384, 1]⟩ M h (ix2 (flatRow (i 0) (i 1)) 0))).zeroExtend 32) (z _) = _
  rw [hz, narrow_widen, flattenMask_at M h (i 0) (i 1)]
  refine congrArg (fun k => live (M k)) ?_
  funext a
  match a with
  | ⟨0, _⟩ => rfl
  | ⟨1, _⟩ => rfl

end Cert.Spec

end
-- ==== Proof.Block.lean ====
/- What one grid point computes: 8192 rows of keys and of values, each projected down and up, and 8192 mask entries, each
   as its bit widened to a word. -/
module

public import proofs.«01_k».proof.Proof.Gen.KernelIdeal.Frame
public import proofs.«01_k».proof.Proof.Spec
public import Idealize.ShloMosaic.Lib.Pipeline.ValueKit

@[expose] public section

noncomputable section

namespace Cert.Block

open Idealize.ShloMosaic Idealize.ShloMosaic.TcCoe Cert.KernelIdeal Cert.KernelIdeal.Gen

/-- The keys' payload at a row and a column: the row projected down and up. -/
theorem pay1_at (X : FVec Ideal S8192x128 .f32) (W : FVec Ideal S32x128 .f32) (R : FVec Ideal S128x32 .f32) (r : Fin 8192) (d : Fin 128) :
    k0_pay1 (F := Ideal) X W R (ix2 r d) = Spec.rebuilt (fun j => X (ix2 r j)) W R d := by
  unfold k0_pay1
  pointwise
  rfl

/-- The values' payload at a row and a column: the row projected down and up. -/
theorem pay2_at (X : FVec Ideal S8192x128 .f32) (W : FVec Ideal S32x128 .f32) (R : FVec Ideal S128x32 .f32) (r : Fin 8192) (d : Fin 128) :
    k0_pay2 (F := Ideal) X W R (ix2 r d) = Spec.rebuilt (fun j => X (ix2 r j)) W R d :=
  pay1_at X W R r d

/-- The mask's payload at a row: the entry's bit as a word. -/
theorem pay3_at (M : FVec Ideal S8192x1 .f32) (y : S8192x1.Idx) : k0_pay3 (F := Ideal) M y = (Spec.live (M y)).zeroExtend 32 := by
  unfold k0_pay3
  rw [shapeCast_self]
  show (Ideal.cmp .one (M y) (Ideal.ofBits .f32 0x00000000#32)).setWidth 32 = _
  rw [Ideal.ofBits_zero]
  rfl

end Cert.Block

end
-- ==== Proof.Arrays.lean ====
/- What the three result arrays hold after the two grid points: every row of the flat layout projected down and up, and
   every mask entry's bit as a word. -/
module

public import proofs.«01_k».proof.Proof.Block

@[expose] public section

noncomputable section

namespace Cert.Arrays

open Idealize.ShloMosaic Idealize.ShloMosaic.TcCoe Cert.KernelIdeal Cert.KernelIdeal.Gen

variable (m : (ℓ : Loc nD τ sig) → Buf (Elt Ideal) ℓ)

/-- An access to a whole block starts at row 0 and column 0. -/
theorem zero2 : (![0, 0] : Fin 2 → Nat) = fun _ => 0 := by decide

/-- At point `t` the keys, the values, the mask and the three results each take the `t`-th of the two row blocks. -/
theorem rowBlocks : ∀ t : Fin cfg0.N, win0_0.index t = ![t.val, 0] ∧ win0_1.index t = ![t.val, 0] ∧ win0_2.index t = ![t.val, 0]
    ∧ win0_7.index t = ![t.val, 0] ∧ win0_8.index t = ![t.val, 0] ∧ win0_9.index t = ![t.val, 0] :=
  (by decide +kernel : ∀ t : Fin grid0.N, _)

/-- At every point the four projection matrices are taken whole. -/
theorem wholeBlocks : ∀ t : Fin cfg0.N, win0_3.index t = ![0, 0] ∧ win0_4.index t = ![0, 0] ∧ win0_5.index t = ![0, 0] ∧ win0_6.index t = ![0, 0] :=
  (by decide +kernel : ∀ t : Fin grid0.N, _)

/-- The keys' down projection as a grid point sees it is the whole matrix. -/
theorem iblk_3 (c : Dev nD) (t : Fin cfg0.N) : (iblk m c 3 t : FVec Ideal S32x128 .f32) = V m c main_arg3 := by
  funext y
  blk_simp [iblk]
  refine congrArg (V m c main_arg3) ?_
  blk_ext [wholeBlocks]

/-- The keys' up projection as a grid point sees it is the whole matrix. -/
theorem iblk_4 (c : Dev nD) (t : Fin cfg0.N) : (iblk m c 4 t : FVec Ideal S128x32 .f32) = V m c main_arg4 := by
  funext y
  blk_simp [iblk]
  refine congrArg (V m c main_arg4) ?_
  blk_ext [wholeBlocks]

/-- The values' down projection as a grid point sees it is the whole matrix. -/
theorem iblk_5 (c : Dev nD) (t : Fin cfg0.N) : (iblk m c 5 t : FVec Ideal S32x128 .f32) = V m c main_arg5 := by
  funext y
  blk_simp [iblk]
  refine congrArg (V m c main_arg5) ?_
  blk_ext [wholeBlocks]

/-- The values' up projection as a grid point sees it is the whole matrix. -/
theorem iblk_6 (c : Dev nD) (t : Fin cfg0.N) : (iblk m c 6 t : FVec Ideal S128x32 .f32) = V m c main_arg6 := by
  funext y
  blk_simp [iblk]
  refine congrArg (V m c main_arg6) ?_
  blk_ext [wholeBlocks]

/-- A column of the keys' block at point `t`, at row `r`: the flat array at the row where the result's block puts row `r`. -/
theorem keys_row (c : Dev nD) (t : Fin cfg0.N) (r : Fin 8192) (d j : Fin 128) :
    (iblk m c 0 t : FVec Ideal S8192x128 .f32) (ix2 r j)
      = (V m c main_call0_v0 : FVec Ideal S16384x128 .f32) (ix2 ((((cfg0.win 7).blk t).view.emb (ix2 r d) : S16384x128.Idx) 0) j) := by
  blk_simp [iblk]
  refine congrArg (V m c main_call0_v0) ?_
  blk_ext [rowBlocks]

/-- A column of the values' block at point `t`, at row `r`: the flat array at the row where the result's block puts row `r`. -/
theorem values_row (c : Dev nD) (t : Fin cfg0.N) (r : Fin 8192) (d j : Fin 128) :
    (iblk m c 1 t : FVec Ideal S8192x128 .f32) (ix2 r j)
      = (V m c main_call0_v1 : FVec Ideal S16384x128 .f32) (ix2 ((((cfg0.win 8).blk t).view.emb (ix2 r d) : S16384x128.Idx) 0) j) := by
  blk_simp [iblk]
  refine congrArg (V m c main_call0_v1) ?_
  blk_ext [rowBlocks]

/-- The mask's block at point `t`: the flat mask where the result's block puts the same entry. -/
theorem mask_row (c : Dev nD) (t : Fin cfg0.N) (y : S8192x1.Idx) :
    (iblk m c 2 t : FVec Ideal S8192x1 .f32) y
      = (V m c main_call0_v2 : FVec Ideal S16384x1 .f32) (((cfg0.win 9).blk t).view.emb y) := by
  blk_simp [iblk]
  refine congrArg (V m c main_call0_v2) ?_
  blk_ext [rowBlocks]

/-- A column of the rebuilt keys' block lies in the same column of the whole array. -/
theorem keys_col (t : Fin cfg0.N) (r : Fin 8192) (d : Fin 128) : (((cfg0.win 7).blk t).view.emb (ix2 r d) : S16384x128.Idx) 1 = d := by
  apply Fin.ext
  blk_simp [rowBlocks]

/-- A column of the rebuilt values' block lies in the same column of the whole array. -/
theorem values_col (t : Fin cfg0.N) (r : Fin 8192) (d : Fin 128) : (((cfg0.win 8).blk t).view.emb (ix2 r d) : S16384x128.Idx) 1 = d := by
  apply Fin.ext
  blk_simp [rowBlocks]

/-- After the run the keys' array holds every flat row of the keys projected down and up. -/
theorem keys (c : Dev nD) : (dats m 0 c).arrAt 7 cfg0.N
    = Spec.rebuiltRows (V m c main_call0_v0) (V m c main_arg3) (V m c main_arg4) := by
  refine (dats m 0 c).arrAt_eq_of_covers 7 _ (by decide +kernel) fun t hf y => ?_
  blk_simp
  rw [after0_7, out0_7, View.canon_unit_zero zero2, View.ld_unit_zero zero2, View.ld_unit_zero zero2, View.ld_unit_zero zero2, iblk_3, iblk_4]
  obtain ⟨r, d, rfl⟩ : ∃ (r : Fin 8192) (d : Fin 128), y = ix2 r d := ⟨_, _, eq_ix2 y⟩
  rw [Block.pay1_at]
  unfold Spec.rebuiltRows
  rw [keys_col]
  exact congrArg (fun x => Spec.rebuilt x _ _ d) (funext fun j => keys_row m c t r d j)

/-- After the run the values' array holds every flat row of the values projected down and up. -/
theorem values (c : Dev nD) : (dats m 0 c).arrAt 8 cfg0.N
    = Spec.rebuiltRows (V m c main_call0_v1) (V m c main_arg5) (V m c main_arg6) := by
  refine (dats m 0 c).arrAt_eq_of_covers 8 _ (by decide +kernel) fun t hf y => ?_
  blk_simp
  rw [after0_8, out0_8, View.canon_unit_zero zero2, View.ld_unit_zero zero2, View.ld_unit_zero zero2, View.ld_unit_zero zero2, iblk_5, iblk_6]
  obtain ⟨r, d, rfl⟩ : ∃ (r : Fin 8192) (d : Fin 128), y = ix2 r d := ⟨_, _, eq_ix2 y⟩
  rw [Block.pay2_at]
  unfold Spec.rebuiltRows
  rw [values_col]
  exact congrArg (fun x => Spec.rebuilt x _ _ d) (funext fun j => values_row m c t r d j)

/-- After the run the mask words' array holds every mask entry's bit as a word. -/
theorem mask (c : Dev nD) : (dats m 0 c).arrAt 9 cfg0.N = Spec.liveRows (V m c main_call0_v2) := by
  refine (dats m 0 c).arrAt_eq_of_covers 9 _ (by decide +kernel) fun t hf y => ?_
  blk_simp
  rw [after0_9, out0_9, View.canon_unit_zero zero2, View.ld_unit_zero zero2]
  refine (Block.pay3_at _ y).trans ?_
  rw [mask_row]
  rfl

end Cert.Arrays

end
-- ==== Proof.KernelRun.lean ====
/- The kernel program's run: its three results are the arguments' rows projected down and up and the mask's bits, and its
   arguments are unchanged. -/
module

public import proofs.«01_k».proof.Proof.Arrays

@[expose] public section

noncomputable section

namespace Cert.KernelRun

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- The flat keys the grid reads are the keys argument, flattened. -/
theorem flatKeys (c : Dev nD) : V m c main_call0_v0
    = shapeCast S16384x128 (m ((c : Thread nD τ).loc main_arg0) : FVec Ideal S4x4096x128 .f32) shapeCasts_S4x4096x128_S16384x128 := by
  entry_read
  rfl

/-- The flat values the grid reads are the values argument, flattened. -/
theorem flatValues (c : Dev nD) : V m c main_call0_v1
    = shapeCast S16384x128 (m ((c : Thread nD τ).loc main_arg1) : FVec Ideal S4x4096x128 .f32) shapeCasts_S4x4096x128_S16384x128 := by
  entry_read
  rfl

/-- The mask column the grid reads is the mask argument, flattened. -/
theorem flatMask (c : Dev nD) : V m c main_call0_v2
    = shapeCast S16384x1 (m ((c : Thread nD τ).loc main_arg2) : FVec Ideal S4x4096 .f32) shapeCasts_S4x4096_S16384x1 := by
  entry_read
  rfl

/-- The region's arrays are ten different buffers. -/
theorem arrays_inj : Function.Injective (Pipeline.arrRef spec0) := launch0.win.arr_inj

/-- The lines after the grid put the flat keys back into batches. -/
theorem tailKeys (c : Dev nD) : Pipeline.afterTail₀ cfgs (dats m) 0 (V0 m) [hostOps1] c main_v0_0
    = shapeCast S4x4096x128 ((dats m 0 c).arrAt 7 cfg0.N : FVec Ideal S16384x128 .f32) shapeCasts_S16384x128_S4x4096x128 := by
  unfold Pipeline.afterTail₀
  show StableHlo.after hostOps1 _ _ = _
  after_results
  exact congrArg (fun X : FVec Ideal S16384x128 .f32 => shapeCast S4x4096x128 X shapeCasts_S16384x128_S4x4096x128)
    (Pipeline.withArrays_arr spec0 arrays_inj c (V0 m c) (fun w => (dats m 0 c).arrAt w cfg0.N) 7)

/-- The lines after the grid put the flat values back into batches. -/
theorem tailValues (c : Dev nD) : Pipeline.afterTail₀ cfgs (dats m) 0 (V0 m) [hostOps1] c main_v0_1
    = shapeCast S4x4096x128 ((dats m 0 c).arrAt 8 cfg0.N : FVec Ideal S16384x128 .f32) shapeCasts_S16384x128_S4x4096x128 := by
  unfold Pipeline.afterTail₀
  show StableHlo.after hostOps1 _ _ = _
  after_results
  exact congrArg (fun X : FVec Ideal S16384x128 .f32 => shapeCast S4x4096x128 X shapeCasts_S16384x128_S4x4096x128)
    (Pipeline.withArrays_arr spec0 arrays_inj c (V0 m c) (fun w => (dats m 0 c).arrAt w cfg0.N) 8)

/-- The lines after the grid test the mask words against zero and put the bits back into batches. -/
theorem tailMask (c : Dev nD) : Pipeline.afterTail₀ cfgs (dats m) 0 (V0 m) [hostOps1] c main_v0_2
    = shapeCast S4x4096 (cmpi .ne ((dats m 0 c).arrAt 9 cfg0.N : IVec S16384x1 32)
        (broadcastInDim S16384x1 ![] bcast_S_S16384x1 (constantI S_ 32 0#32))) shapeCasts_S16384x1_S4x4096 := by
  unfold Pipeline.afterTail₀
  show StableHlo.after hostOps1 _ _ = _
  after_results
  exact congrArg (fun X : IVec S16384x1 32 => shapeCast S4x4096 (cmpi .ne X
      (broadcastInDim S16384x1 ![] bcast_S_S16384x1 (constantI S_ 32 0#32))) shapeCasts_S16384x1_S4x4096)
    (Pipeline.withArrays_arr spec0 arrays_inj c (V0 m c) (fun w => (dats m 0 c).arrAt w cfg0.N) 9)

/-- The first result: every row of the keys projected down and up. -/
theorem result0 (c : Dev nD) : Pipeline.afterTail₀ cfgs (dats m) 0 (V0 m) [hostOps1] c main_v0_0
    = Spec.rebuilt3 (m ((c : Thread nD τ).loc main_arg0)) (m ((c : Thread nD τ).loc main_arg3)) (m ((c : Thread nD τ).loc main_arg4)) := by
  rw [tailKeys, Arrays.keys, flatKeys, V_main_arg3, V_main_arg4]
  exact Spec.unflatten_rebuiltRows _ _ _ _ _

/-- The second result: every row of the values projected down and up. -/
theorem result1 (c : Dev nD) : Pipeline.afterTail₀ cfgs (dats m) 0 (V0 m) [hostOps1] c main_v0_1
    = Spec.rebuilt3 (m ((c : Thread nD τ).loc main_arg1)) (m ((c : Thread nD τ).loc main_arg5)) (m ((c : Thread nD τ).loc main_arg6)) := by
  rw [tailValues, Arrays.values, flatValues, V_main_arg5, V_main_arg6]
  exact Spec.unflatten_rebuiltRows _ _ _ _ _

/-- The third result: the bit of every mask entry. -/
theorem result2 (c : Dev nD) : Pipeline.afterTail₀ cfgs (dats m) 0 (V0 m) [hostOps1] c main_v0_2
    = Spec.live2 (m ((c : Thread nD τ).loc main_arg2)) := by
  rw [tailMask, Arrays.mask, flatMask]
  exact Spec.unflatten_liveRows _ _ _ _ fun _ => rfl

/-- The kernel program ends with its three results at those values. -/
theorem results : θ_run (defs (F := Ideal)) (onTc (τ := τ) (main (F := Ideal))) ⟨m, fun _ => 0, ρ⟩ fun r => ∀ c : Dev nD,
    r.2.mem ((c.tc : Thread nD τ).loc main_v0_0)
        = Spec.rebuilt3 (m ((c.tc : Thread nD τ).loc main_arg0)) (m ((c.tc : Thread nD τ).loc main_arg3)) (m ((c.tc : Thread nD τ).loc main_arg4))
      ∧ r.2.mem ((c.tc : Thread nD τ).loc main_v0_1)
        = Spec.rebuilt3 (m ((c.tc : Thread nD τ).loc main_arg1)) (m ((c.tc : Thread nD τ).loc main_arg5)) (m ((c.tc : Thread nD τ).loc main_arg6))
      ∧ r.2.mem ((c.tc : Thread nD τ).loc main_v0_2) = Spec.live2 (m ((c.tc : Thread nD τ).loc main_arg2)) :=
  (θ_run defs _ _).mono (fun _ h c =>
    ⟨((h c).2 main_v0_0 (Pipeline.mem_restRefs_of main_v0_0 (by decide) (by decide))).trans (result0 m c),
     ((h c).2 main_v0_1 (Pipeline.mem_restRefs_of main_v0_1 (by decide) (by decide))).trans (result1 m c),
     ((h c).2 main_v0_2 (Pipeline.mem_restRefs_of main_v0_2 (by decide) (by decide))).trans (result2 m c)⟩) (run_main m ρ)

end Cert.KernelRun

end
-- ==== Proof.Scatter.lean ====
/- Writing every row to its own row number: a scatter along axis 1 whose index words are 0, 1, …, 4095 lands each update
   at its own index, so the array written is the updates. Both shapes of the reference are here, three axes and two. -/
module

public import Idealize.ShloMosaic.Lib.Routing.OpsSet
public import Idealize.ShloMosaic.Lib.Pointwise

@[expose] public section

noncomputable section

namespace Cert.Scatter

open Idealize.ShloMosaic

/-- The index words: row `s`'s word, read signed, is `s`. -/
def Own (idx : IVec ⟨2, ![4096, 1]⟩ 32) : Prop := ∀ s : Fin 4096, (idx (ix2 s 0)).toInt = (s.val : Int)

/-- The row counter as the program builds it — the counter where it is not negative, the counter plus 4096 where it
    is — laid out as a column: row `s`'s word is `s`. -/
theorem own_counter (lo hi : IVec ⟨1, ![4096]⟩ 32) (hlo : ∀ i, lo i = 0#32)
    (h : (⟨1, ![4096]⟩ : Shape).BroadcastsInDim ⟨2, ![4096, 1]⟩ ![0]) :
    Own (broadcastInDim ⟨2, ![4096, 1]⟩ ![0] h
      (select (cmpi .slt (iotaInDim ⟨1, ![4096]⟩ 32 0) lo) (addi (iotaInDim ⟨1, ![4096]⟩ 32 0) hi) (iotaInDim ⟨1, ![4096]⟩ 32 0))) := by
  intro s
  have hs : (BitVec.ofNat 32 s.val).toInt = (s.val : Int) :=
    StableHlo.Predicate.toInt_ofNat_small _ (by have := s.isLt; omega)
  rw [broadcastInDim_apply ![0] h _ (ix2 s 0) (ix1 s) (fun a => by
    match a with
    | ⟨0, _⟩ => rfl)]
  show (Scalar.select (IntOp.cmpi .slt (BitVec.ofNat 32 s.val) (lo (ix1 s))) _ (BitVec.ofNat 32 s.val)).toInt = _
  rw [hlo]
  have hn : IntOp.cmpi .slt (BitVec.ofNat 32 s.val) 0#32 = 0#1 := by
    show BitVec.ofBool (BitVec.slt _ _) = 0#1
    have : BitVec.slt (BitVec.ofNat 32 s.val) 0#32 = false := by
      rw [BitVec.slt, hs]
      simp
    rw [this]
    rfl
  rw [hn]
  exact hs

/-- A scatter of a three-axis array along its middle axis. -/
abbrev dims3 (wf : ScatterDims.WF ⟨3, ![4, 4096, 32]⟩ ⟨2, ![4096, 1]⟩ ⟨3, ![4, 4096, 32]⟩ [0, 2] [1] [1] 1) :
    ScatterDims ⟨3, ![4, 4096, 32]⟩ ⟨2, ![4096, 1]⟩ ⟨3, ![4, 4096, 32]⟩ := ⟨[0, 2], [1], [1], 1, wf⟩

/-- A scatter of a two-axis array along its last axis. -/
abbrev dims2 (wf : ScatterDims.WF ⟨2, ![4, 4096]⟩ ⟨2, ![4096, 1]⟩ ⟨2, ![4, 4096]⟩ [0] [1] [1] 1) :
    ScatterDims ⟨2, ![4, 4096]⟩ ⟨2, ![4096, 1]⟩ ⟨2, ![4, 4096]⟩ := ⟨[0], [1], [1], 1, wf⟩

/-- Where start plus window coordinate is the update's own coordinate on every axis, the update lands at its own index. -/
theorem lands_of {s si u : Shape} {w : Nat} (d : ScatterDims s si u) (k : u.Idx) (idx : IVec si w) (i : s.Idx)
    (h : ∀ a, d.start k idx a + d.window k a = ((i a).val : Int)) : d.resultIdx? k idx = some i := by
  unfold ScatterDims.resultIdx?
  rw [dif_pos fun a => by rw [h a]; exact ⟨Int.natCast_nonneg _, Int.ofNat_lt.2 (i a).isLt⟩]
  refine congrArg some (funext fun a => Fin.ext ?_)
  show (d.start k idx a + d.window k a).toNat = _
  rw [h a]
  rfl

/-- With three axes, every update lands at its own index. -/
theorem lands3 (wf) (idx : IVec ⟨2, ![4096, 1]⟩ 32) (h : Own idx) (k : (⟨3, ![4, 4096, 32]⟩ : Shape).Idx) :
    (dims3 wf).resultIdx? k idx = some k := by
  refine lands_of _ _ _ _ fun a => ?_
  match a with
  | ⟨0, _⟩ =>
    have e : (dims3 wf).start k idx ⟨0, by decide⟩ = 0 := rfl
    have e' : (dims3 wf).window k ⟨0, by decide⟩ = (k ⟨0, by decide⟩).val := rfl
    rw [e, e', zero_add]
  | ⟨1, _⟩ =>
    have e : (dims3 wf).start k idx ⟨1, by decide⟩ = (idx (ix2 (k 1) 0)).toInt := by
      show (idx ((dims3 wf).siIdx k ⟨0, _⟩)).toInt = _
      refine congrArg (fun j => (idx j).toInt) (funext fun b => ?_)
      match b with
      | ⟨0, _⟩ => rfl
      | ⟨1, _⟩ => rfl
    have e' : (dims3 wf).window k ⟨1, by decide⟩ = 0 := rfl
    rw [e, e', h (k 1)]
    exact add_zero _
  | ⟨2, _⟩ =>
    have e : (dims3 wf).start k idx ⟨2, by decide⟩ = 0 := rfl
    have e' : (dims3 wf).window k ⟨2, by decide⟩ = (k ⟨2, by decide⟩).val := rfl
    rw [e, e', zero_add]

/-- With two axes, every update lands at its own index. -/
theorem lands2 (wf) (idx : IVec ⟨2, ![4096, 1]⟩ 32) (h : Own idx) (k : (⟨2, ![4, 4096]⟩ : Shape).Idx) :
    (dims2 wf).resultIdx? k idx = some k := by
  refine lands_of _ _ _ _ fun a => ?_
  match a with
  | ⟨0, _⟩ =>
    have e : (dims2 wf).start k idx ⟨0, by decide⟩ = 0 := rfl
    have e' : (dims2 wf).window k ⟨0, by decide⟩ = (k ⟨0, by decide⟩).val := rfl
    rw [e, e', zero_add]
  | ⟨1, _⟩ =>
    have e : (dims2 wf).start k idx ⟨1, by decide⟩ = (idx (ix2 (k 1) 0)).toInt := by
      show (idx ((dims2 wf).siIdx k ⟨0, _⟩)).toInt = _
      refine congrArg (fun j => (idx j).toInt) (funext fun b => ?_)
      match b with
      | ⟨0, _⟩ => rfl
      | ⟨1, _⟩ => rfl
    have e' : (dims2 wf).window k ⟨1, by decide⟩ = 0 := rfl
    rw [e, e', h (k 1)]
    exact add_zero _

/-- A scatter that keeps the update and lands every update at its own index leaves the updates. -/
theorem overwrite {s si : Shape} {w : Nat} {α : Type} (d : ScatterDims s si s) (x : s.Idx → α) (idx : IVec si w) (upd : s.Idx → α)
    (h : ∀ k, d.resultIdx? k idx = some k) : Host.scatter d (fun _ b => b) x idx upd = upd := by
  funext i
  refine Routing.scatter_set_hit d x idx upd i (upd i) (fun k hk => ?_) i (h i)
  rw [h k] at hk
  rw [Option.some.inj hk]

end Cert.Scatter

end
-- ==== Proof.RefValue.lean ====
/- What the reference's three results are: its products read entry by entry, its scatters away. -/
module

public import proofs.«01_k».proof.Proof.Gen.ReferenceIdeal
public import proofs.«01_k».proof.Proof.Spec
public import proofs.«01_k».proof.Proof.Scatter

@[expose] public section

noncomputable section

namespace Cert.RefValue

open Idealize.ShloMosaic Cert.ReferenceIdeal Cert.ReferenceIdeal.Gen

/-- The reference's index words: the row counter, with its wrap of negative counters, as a column. -/
abbrev counter : IVec S4096x1 32 :=
  broadcastInDim S4096x1 ![0] bcast_S4096_S4096x1_0
    (select (cmpi .slt (iotaInDim S4096 32 0) (broadcastInDim S4096 ![] bcast_S_S4096 (constantI S_ 32 0#32)))
      (addi (iotaInDim S4096 32 0) (broadcastInDim S4096 ![] bcast_S_S4096 (constantI S_ 32 4096#32))) (iotaInDim S4096 32 0))

/-- Row `s`'s index word is `s`. -/
theorem counter_own : Scatter.Own counter := Scatter.own_counter _ _ (fun _ => rfl) _

/-- The reference's down projection at an entry: the latent coordinate of that row. -/
theorem down_at (X : FVec Ideal S4x4096x128 .f32) (W : FVec Ideal S32x128 .f32) (b : Fin 4) (s : Fin 4096) (c : Fin 32) :
    Host.dotGeneral dot_S4x4096x128_S128x32_S4x4096x32_2_0_01_1_n_n none X (transpose S128x32 [1, 0] W transposes_S32x128_S128x32_1_0) (ix3 b s c)
      = Spec.latent (fun j => X (ix3 b s j)) W c := by
  pointwise
  rfl

/-- The reference's up projection at an entry: the latent row's inner product with a row of the matrix. -/
theorem up_at (L : FVec Ideal S4x4096x32 .f32) (R : FVec Ideal S128x32 .f32) (b : Fin 4) (s : Fin 4096) (d : Fin 128) :
    Host.dotGeneral dot_S4x4096x32_S32x128_S4x4096x128_2_0_01_1_n_n none L (transpose S32x128 [1, 0] R transposes_S128x32_S32x128_1_0) (ix3 b s d)
      = ∑ c : Fin 32, L (ix3 b s c) * R (ix2 d c) := by
  pointwise

/-- The reference's rebuilt keys (or values): project down, write each row to its own row number, project up. -/
theorem rebuilt (Z : FVec Ideal S4x4096x32 .f32) (X : FVec Ideal S4x4096x128 .f32) (W : FVec Ideal S32x128 .f32) (R : FVec Ideal S128x32 .f32) :
    Host.dotGeneral dot_S4x4096x32_S32x128_S4x4096x128_2_0_01_1_n_n none
      (Host.scatter scatter_S4x4096x32_S4096x1_S4x4096x32_02_1_1_1 (fun _ b => b) Z counter
        (Host.dotGeneral dot_S4x4096x128_S128x32_S4x4096x32_2_0_01_1_n_n none X (transpose S128x32 [1, 0] W transposes_S32x128_S128x32_1_0)))
      (transpose S32x128 [1, 0] R transposes_S128x32_S32x128_1_0) = Spec.rebuilt3 X W R := by
  have hs := Scatter.overwrite scatter_S4x4096x32_S4096x1_S4x4096x32_02_1_1_1 Z counter
    (Host.dotGeneral dot_S4x4096x128_S128x32_S4x4096x32_2_0_01_1_n_n none X (transpose S128x32 [1, 0] W transposes_S32x128_S128x32_1_0))
    (Scatter.lands3 _ counter counter_own)
  rw [hs]
  funext i
  obtain ⟨b, s, d, rfl⟩ : ∃ b s d, i = ix3 b s d := ⟨_, _, _, eq_ix3 i⟩
  rw [up_at]
  exact Finset.sum_congr rfl fun c _ => congrArg (· * R (ix2 d c)) (down_at X W b s c)

/-- The reference's mask: each entry's bit, written to its own row number. -/
theorem live (Z : IVec S4x4096 1) (M : FVec Ideal S4x4096 .f32) :
    Host.scatter scatter_S4x4096_S4096x1_S4x4096_0_1_1_1 (fun _ b => b) Z counter
      (id (cmpf .une M (broadcastInDim S4x4096 ![] bcast_S_S4x4096 (constant S_ .f32 0x00000000#32)))) = Spec.live2 M := by
  refine (Scatter.overwrite scatter_S4x4096_S4096x1_S4x4096_0_1_1_1 Z counter _ (Scatter.lands2 _ counter counter_own)).trans ?_
  funext i
  show Ideal.cmp .une (M i) (Ideal.ofBits .f32 0x00000000#32) = _
  rw [Ideal.ofBits_zero]
  rfl

end Cert.RefValue

end
-- ==== Proof.RefRun.lean ====
/- The reference program's run, its three results at the same values of its own arguments. -/
module

public import proofs.«01_k».proof.Proof.Gen.ReferenceIdeal.Run
public import proofs.«01_k».proof.Proof.RefValue
public import Idealize.ShloMosaic.Lib.Quiescent

@[expose] public section

noncomputable section

namespace Cert.RefRun

open Idealize.ShloMosaic Idealize.ShloMosaic.TcCoe Idealize.SL.Sem Cert.ReferenceIdeal Cert.ReferenceIdeal.Gen

variable (m : (ℓ : Loc nD τ sig) → Buf (Elt Ideal) ℓ) (ρ : Dev nD → PrngReg)

/-- The reference ends with its arguments unchanged. -/
theorem unchanged : θ_run (defs (F := Ideal)) (onTc (τ := τ) (main (F := Ideal))) ⟨m, fun _ => 0, ρ⟩ fun r => ∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => (h c).2.2.2) (Value.run (F := Ideal) m ρ)

/-- The reference ends with every semaphore at zero: it has none. -/
theorem counters : θ_run (defs (F := Ideal)) (onTc (τ := τ) (main (F := Ideal))) ⟨m, fun _ => 0, ρ⟩ fun r => r.2.sem = fun _ => 0 :=
  (θ_run defs _ _).mono (fun r _ => sem_eq_zero_of_no_sems (by decide) r.2) (Value.run (F := Ideal) m ρ)

/-- The reference ends with its three results: the keys' and the values' rows projected down and up, and the mask's bits. -/
theorem results : θ_run (defs (F := Ideal)) (onTc (τ := τ) (main (F := Ideal))) ⟨m, fun _ => 0, ρ⟩ fun r => ∀ c : Dev nD,
    r.2.mem ((c.tc : Thread nD τ).loc main_v33)
        = Spec.rebuilt3 (m ((c.tc : Thread nD τ).loc main_arg0)) (m ((c.tc : Thread nD τ).loc main_arg3)) (m ((c.tc : Thread nD τ).loc main_arg4))
      ∧ r.2.mem ((c.tc : Thread nD τ).loc main_v35)
        = Spec.rebuilt3 (m ((c.tc : Thread nD τ).loc main_arg1)) (m ((c.tc : Thread nD τ).loc main_arg5)) (m ((c.tc : Thread nD τ).loc main_arg6))
      ∧ r.2.mem ((c.tc : Thread nD τ).loc main_v31) = Spec.live2 (m ((c.tc : Thread nD τ).loc main_arg2)) :=
  (θ_run defs _ _).mono (fun _ h c =>
    ⟨(h c).1.trans (RefValue.rebuilt _ _ _ _), (h c).2.1.trans (RefValue.rebuilt _ _ _ _), (h c).2.2.1.trans (RefValue.live _ _)⟩)
    (Value.run (F := Ideal) m ρ)

end Cert.RefRun

end
-- ==== Proof.Equal.lean ====
/- The kernel program and the reference, started from equal arguments, end with equal results. -/
module

public import proofs.«01_k».proof.Defs
public import proofs.«01_k».proof.Proof.KernelRun
public import proofs.«01_k».proof.Proof.RefRun

@[expose] public section

noncomputable section

namespace Cert.Equal

open Idealize.ShloMosaic Idealize.SL.Sem

/-- The reference ends with its arguments unchanged and every semaphore at zero. -/
theorem quiescent_ref : Cert.quiescent_ReferenceIdeal (hReferenceIdeal := Cert.ReferenceIdeal.Gen.facts) :=
  fun m ρ _ => θ_run_and (RefRun.unchanged m ρ) (RefRun.counters m ρ)

/-- From equal arguments both programs end with the same three results, their arguments unchanged. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => Spec.rebuilt3 (m ((c.tc : Thread _ _).loc Cert.KernelIdeal.main_arg0)) (m ((c.tc : Thread _ _).loc Cert.KernelIdeal.main_arg3))
      (m ((c.tc : Thread _ _).loc Cert.KernelIdeal.main_arg4)),
    fun c => Spec.rebuilt3 (m ((c.tc : Thread _ _).loc Cert.KernelIdeal.main_arg1)) (m ((c.tc : Thread _ _).loc Cert.KernelIdeal.main_arg5))
      (m ((c.tc : Thread _ _).loc Cert.KernelIdeal.main_arg6)),
    fun c => Spec.live2 (m ((c.tc : Thread _ _).loc Cert.KernelIdeal.main_arg2)), ?_, ?_⟩
  · exact (θ_run _ _ _).mono (fun _ h c => ⟨(h.1 c).1, (h.1 c).2.1, (h.1 c).2.2, h.2 c⟩)
      (θ_run_and (KernelRun.results m g) (Cert.KernelIdeal.Gen.unchanged m g))
  · refine (θ_run _ _ _).mono (fun _ h c => ⟨(h.1 c).1.trans ?_, (h.1 c).2.1.trans ?_, (h.1 c).2.2.trans ?_, h.2 c⟩)
      (θ_run_and (RefRun.results m' g') (RefRun.unchanged m' g'))
    · rw [(hagree c).1, (hagree c).2.2.2.1, (hagree c).2.2.2.2.1]
    · rw [(hagree c).2.1, (hagree c).2.2.2.2.2.1, (hagree c).2.2.2.2.2.2]
    · rw [(hagree c).2.2.1]

end Cert.Equal

end
-- ==== Proof.lean ====
/- The certificate's claims, assembled: the frames of the two printings of the kernel are generated, the reference's frame
   and the equality of the results come from Proof/Equal.lean. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equal
public import Idealize.ShloMosaic.Adequacy
public import Idealize.ShloMosaic.Init

@[expose] public section

noncomputable section

namespace Cert.Proof

open Idealize.ShloMosaic Idealize.SL.Sem Cert.Kernel

/-- Everything claimed: the kernel, the kernel over the extended reals and the reference each end with their arguments
    unchanged and every semaphore at zero; the second is the first, read over the extended reals; and over the extended
    reals the kernel's three results are the reference's. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, Cert.Equal.quiescent_ref, trivial,
  Cert.Equal.algebraic⟩

end Cert.Proof

end
